-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x200x50x100 : Shape := ⟨4, ![32, 200, 50, 100]⟩
abbrev S32x200 : Shape := ⟨2, ![32, 200]⟩
abbrev S320000x100 : Shape := ⟨2, ![320000, 100]⟩
abbrev S6400x1 : Shape := ⟨2, ![6400, 1]⟩
abbrev S6400x50 : Shape := ⟨2, ![6400, 50]⟩
abbrev S320000x1 : Shape := ⟨2, ![320000, 1]⟩
abbrev S320000 : Shape := ⟨1, ![320000]⟩
abbrev S512x100 : Shape := ⟨2, ![512, 100]⟩
abbrev S512x1 : Shape := ⟨2, ![512, 1]⟩
abbrev S512 : Shape := ⟨1, ![512]⟩
abbrev S32x200x50 : Shape := ⟨3, ![32, 200, 50]⟩

abbrev nBuf : Space → Nat
  | .hbm => 12
  | .vmem => 10
  | .smem => 0
  | _ => 0

abbrev bufTy : (tb : Table) → Fin (tcTables nBuf tb) → BufTy
  | .hbm, ⟨0, _⟩ => ⟨S32x200x50x100, .f32⟩
  | .hbm, ⟨1, _⟩ => ⟨S32x200, .f32⟩
  | .hbm, ⟨2, _⟩ => ⟨S32x200x50x100, .f32⟩
  | .hbm, ⟨3, _⟩ => ⟨S32x200x50x100, .f32⟩
  | .hbm, ⟨4, _⟩ => ⟨S320000x100, .f32⟩
  | .hbm, ⟨5, _⟩ => ⟨S320000x100, .f32⟩
  | .hbm, ⟨6, _⟩ => ⟨S320000x100, .f32⟩
  | .hbm, ⟨7, _⟩ => ⟨S6400x1, .f32⟩
  | .hbm, ⟨8, _⟩ => ⟨S6400x50, .f32⟩
  | .hbm, ⟨9, _⟩ => ⟨S320000x1, .f32⟩
  | .hbm, ⟨10, _⟩ => ⟨S320000, .f32⟩
  | .hbm, ⟨11, _⟩ => ⟨S32x200x50, .f32⟩
  | .local _ .vmem, ⟨0, _⟩ => ⟨S512x100, .f32⟩
  | .local _ .vmem, ⟨1, _⟩ => ⟨S512x100, .f32⟩
  | .local _ .vmem, ⟨2, _⟩ => ⟨S512x1, .f32⟩
  | .local _ .vmem, ⟨3, _⟩ => ⟨S512x1, .f32⟩
  | .local _ .vmem, ⟨4, _⟩ => ⟨S512x100, .f32⟩
  | .local _ .vmem, ⟨5, _⟩ => ⟨S512x100, .f32⟩
  | .local _ .vmem, ⟨6, _⟩ => ⟨S512x100, .f32⟩
  | .local _ .vmem, ⟨7, _⟩ => ⟨S512x100, .f32⟩
  | .local _ .vmem, ⟨8, _⟩ => ⟨S512, .f32⟩
  | .local _ .vmem, ⟨9, _⟩ => ⟨S512, .f32⟩
  | _, _ => ⟨S32x200x50x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![625], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32x200x50x100 : Shape := ⟨4, ![32, 200, 50, 100]⟩
abbrev S32x200 : Shape := ⟨2, ![32, 200]⟩
abbrev S32x200x1x1 : Shape := ⟨4, ![32, 200, 1, 1]⟩
abbrev S_ : Shape := ⟨0, ![]⟩
abbrev S32x200x50 : Shape := ⟨3, ![32, 200, 50]⟩
abbrev S32x200x50x1 : Shape := ⟨4, ![32, 200, 50, 1]⟩
abbrev S32x200x50x1x1 : Shape := ⟨5, ![32, 200, 50, 1, 1]⟩
abbrev S1 : Shape := ⟨1, ![1]⟩
abbrev S1x1x1x1x1 : Shape := ⟨5, ![1, 1, 1, 1, 1]⟩

abbrev nBuf : Space → Nat
  | .hbm => 58
  | .vmem => 0
  | .smem => 0
  | _ => 0

abbrev bufTy : (tb : Table) → Fin (tcTables nBuf tb) → BufTy
  | .hbm, ⟨0, _⟩ => ⟨S32x200x50x100, .f32⟩
  | .hbm, ⟨1, _⟩ => ⟨S32x200, .f32⟩
  | .hbm, ⟨2, _⟩ => ⟨S32x200x50x100, .f32⟩
  | .hbm, ⟨3, _⟩ => ⟨S32x200x50x100, .f32⟩
  | .hbm, ⟨4, _⟩ => ⟨S32x200x1x1, .f32⟩
  | .hbm, ⟨5, _⟩ => ⟨S32x200x50x100, .f32⟩
  | .hbm, ⟨6, _⟩ => ⟨S32x200x50x100, .f32⟩
  | .hbm, ⟨7, _⟩ => ⟨S32x200x50x100, .f32⟩
  | .hbm, ⟨8, _⟩ => ⟨S_, .f32⟩
  | .hbm, ⟨9, _⟩ => ⟨S32x200x50x100, .f32⟩
  | .hbm, ⟨10, _⟩ => ⟨S32x200x50x100, .i1⟩
  | .hbm, ⟨11, _⟩ => ⟨S_, .i32⟩
  | .hbm, ⟨12, _⟩ => ⟨S_, .i32⟩
  | .hbm, ⟨13, _⟩ => ⟨S32x200x50x100, .i32⟩
  | .hbm, ⟨14, _⟩ => ⟨S32x200x50x100, .i32⟩
  | .hbm, ⟨15, _⟩ => ⟨S32x200x50x100, .i32⟩
  | .hbm, ⟨16, _⟩ => ⟨S_, .i32⟩
  | .hbm, ⟨17, _⟩ => ⟨S32x200x50x100, .i32⟩
  | .hbm, ⟨18, _⟩ => ⟨S32x200x50x100, .i32⟩
  | .hbm, ⟨19, _⟩ => ⟨S_, .i32⟩
  | .hbm, ⟨20, _⟩ => ⟨S32x200x50x100, .i32⟩
  | .hbm, ⟨21, _⟩ => ⟨S32x200x50x100, .i1⟩
  | .hbm, ⟨22, _⟩ => ⟨S32x200x50x100, .i1⟩
  | .hbm, ⟨23, _⟩ => ⟨S_, .i1⟩
  | .hbm, ⟨24, _⟩ => ⟨S32x200x50, .i1⟩
  | .hbm, ⟨25, _⟩ => ⟨S32x200x50x100, .i32⟩
  | .hbm, ⟨26, _⟩ => ⟨S_, .i32⟩
  | .hbm, ⟨27, _⟩ => ⟨S_, .i32⟩
  | .hbm, ⟨28, _⟩ => ⟨S32x200x50, .i32⟩
  | .hbm, ⟨29, _⟩ => ⟨S32x200x50, .i32⟩
  | .hbm, ⟨30, _⟩ => ⟨S32x200x50x1, .i32⟩
  | .hbm, ⟨31, _⟩ => ⟨S_, .i32⟩
  | .hbm, ⟨32, _⟩ => ⟨S32x200x50x1, .i32⟩
  | .hbm, ⟨33, _⟩ => ⟨S32x200x50x1, .i1⟩
  | .hbm, ⟨34, _⟩ => ⟨S_, .i32⟩
  | .hbm, ⟨35, _⟩ => ⟨S32x200x50x1, .i32⟩
  | .hbm, ⟨36, _⟩ => ⟨S32x200x50x1, .i32⟩
  | .hbm, ⟨37, _⟩ => ⟨S32x200x50x1, .i32⟩
  | .hbm, ⟨38, _⟩ => ⟨S32x200x50x1x1, .i32⟩
  | .hbm, ⟨39, _⟩ => ⟨S1, .i32⟩
  | .hbm, ⟨40, _⟩ => ⟨S_, .i32⟩
  | .hbm, ⟨41, _⟩ => ⟨S32x200x50x1x1, .i32⟩
  | .hbm, ⟨42, _⟩ => ⟨S32x200x50x1x1, .i1⟩
  | .hbm, ⟨43, _⟩ => ⟨S1x1x1x1x1, .i32⟩
  | .hbm, ⟨44, _⟩ => ⟨S32x200x50x1x1, .i32⟩
  | .hbm, ⟨45, _⟩ => ⟨S32x200x50x1x1, .i1⟩
  | .hbm, ⟨46, _⟩ => ⟨S32x200x50x1x1, .i1⟩
  | .hbm, ⟨47, _⟩ => ⟨S_, .i1⟩
  | .hbm, ⟨48, _⟩ => ⟨S32x200x50x1, .i1⟩
  | .hbm, ⟨49, _⟩ => ⟨S32x200x50x1, .f32⟩
  | .hbm, ⟨50, _⟩ => ⟨S_, .f32⟩
  | .hbm, ⟨51, _⟩ => ⟨S32x200x50x1, .f32⟩
  | .hbm, ⟨52, _⟩ => ⟨S32x200x50x1, .f32⟩
  | .hbm, ⟨53, _⟩ => ⟨S32x200x50x1, .i1⟩
  | .hbm, ⟨54, _⟩ => ⟨S_, .f32⟩
  | .hbm, ⟨55, _⟩ => ⟨S32x200x50x1, .f32⟩
  | .hbm, ⟨56, _⟩ => ⟨S32x200x50x1, .f32⟩
  | .hbm, ⟨57, _⟩ => ⟨S32x200x50, .f32⟩
  | _, _ => ⟨S32x200x50x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_call1_v0 : Ref sig .tc := ⟨.hbm, 25, rfl⟩
abbrev main_call1_c : Ref sig .tc := ⟨.hbm, 26, rfl⟩
abbrev main_call1_c_0 : Ref sig .tc := ⟨.hbm, 27, rfl⟩
abbrev main_call1_v1_0 : Ref sig .tc := ⟨.hbm, 28, rfl⟩
abbrev main_v13 : Ref sig .tc := ⟨.hbm, 29, rfl⟩
abbrev main_v14 : Ref sig .tc := ⟨.hbm, 30, rfl⟩
abbrev main_call2_c : Ref sig .tc := ⟨.hbm, 31, rfl⟩
abbrev main_call2_v0 : Ref sig .tc := ⟨.hbm, 32, rfl⟩
abbrev main_call2_v1 : Ref sig .tc := ⟨.hbm, 33, rfl⟩
abbrev main_call2_c_0 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_c_1 : Ref sig .tc := ⟨.hbm, 39, rfl⟩
abbrev main_call2_c_2 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_3 : Ref sig .tc := ⟨.hbm, 47, rfl⟩
abbrev main_call2_v12 : Ref sig .tc := ⟨.hbm, 48, rfl⟩
abbrev main_call2_v13 : Ref sig .tc := ⟨.hbm, 49, rfl⟩
abbrev main_call2_cst : Ref sig .tc := ⟨.hbm, 50, rfl⟩
abbrev main_call2_v14 : Ref sig .tc := ⟨.hbm, 51, rfl⟩
abbrev main_v15 : Ref sig .tc := ⟨.hbm, 52, rfl⟩
abbrev main_v16 : Ref sig .tc := ⟨.hbm, 53, rfl⟩
abbrev main_cst_4 : Ref sig .tc := ⟨.hbm, 54, rfl⟩
abbrev main_call3_v0 : Ref sig .tc := ⟨.hbm, 55, rfl⟩
abbrev main_v17 : Ref sig .tc := ⟨.hbm, 56, rfl⟩
abbrev main_v18 : Ref sig .tc := ⟨.hbm, 57, rfl⟩

abbrev nD : Nat := 1
abbrev τ : Topo := Topo.v7x

variable {F : FTy → Type} [FloatOps F]
-- ==== Proof.Ref.lean ====
/-
  The reference's run. @main of `ReferenceIdeal` is a straight line of host operations once its four functions
  (`where`, `argmax`, `take_along_axis`, `where_0`) are unfolded at their calls. This module lists those operations in
  order (`ops`), proves that @main is that list (`main_eq`), that every run ends with each buffer at the list's fold over
  the launch contents (`run_main`), and names the contents of the result buffer as one term of the four arguments
  (`refOut`, `out_eq`); the arguments end as they began.
-/
module

public import proofs.«01_k».proof.Defs
public import Idealize.ShloMosaic.Lib.StableHlo.Run
public import Idealize.ShloMosaic.Lib.Quiescent
public import proofs.«01_k».proof.Proof.Gen.ReferenceIdeal

@[expose] public section

namespace Cert.Ref

open Idealize.ShloMosaic Idealize.ShloMosaic.TcCoe Idealize.ShloMosaic.StableHlo Idealize.SL.Sem
open Cert.ReferenceIdeal Cert.ReferenceIdeal.Facts₀

local instance : Cert.ReferenceIdeal.Facts := Cert.ReferenceIdeal.Gen.facts

variable {F : FTy → Type} [FloatOps F]

/-! ## The operations -/

/-- @main's host operations in order, each call's body at its place: the ratio `u * r / t` and its comparison with one;
    the comparison as an integer; the row-wise "no accepted draw"; the position of the first largest element; the
    element there; ten in the rows without an accepted draw; the last axis dropped. -/
abbrev ops : List (HloOp τ sig (Elt F)) :=
  [ unary main_arg1 main_v0 (broadcastInDim S32x200x1x1 ![0, 1] bcast_S32x200_S32x200x1x1_0_1),
    unary main_v0 main_v1 (broadcastInDim S32x200x50x100 ![0, 1, 2, 3] bcast_S32x200x1x1_S32x200x50x100_0_1_2_3),
    binary main_arg0 main_v1 main_v2 mulf,
    binary main_v2 main_arg2 main_v3 Host.divf,
    nullary main_cst (constant S_ .f32 0x3F800000#32),
    unary main_cst main_v4 (broadcastInDim S32x200x50x100 ![] bcast_S_S32x200x50x100),
    binary main_v3 main_v4 main_v5 (cmpf .olt),
    nullary main_c (constantI S_ 32 1#32),
    nullary main_c_0 (constantI S_ 32 0#32),
    unary main_c main_call0_v0 (broadcastInDim S32x200x50x100 ![] bcast_S_S32x200x50x100),
    unary main_c_0 main_call0_v1 (broadcastInDim S32x200x50x100 ![] bcast_S_S32x200x50x100),
    ternary main_v5 main_call0_v0 main_call0_v1 main_v6 select,
    nullary main_c_1 (constantI S_ 32 1#32),
    unary main_c_1 main_v7 (broadcastInDim S32x200x50x100 ![] bcast_S_S32x200x50x100),
    binary main_v7 main_v6 main_v8 subi,
    nullary main_c_2 (constantI S_ 32 0#32),
    unary main_c_2 main_v9 (broadcastInDim S32x200x50x100 ![] bcast_S_S32x200x50x100),
    binary main_v8 main_v9 main_v10 (cmpi .ne),
    unary main_v10 main_v11 id,
    nullary main_c_3 (constantI S_ 1 1#1),
    binary main_v11 main_c_3 main_v12 (fun x v => Host.reduce IntOp.andi x v reducesTo_S32x200x50x100_S32x200x50_d3 h_S_),
    nullary main_call1_v0 (iotaInDim S32x200x50x100 32 3),
    nullary main_call1_c (constantI S_ 32 2147483648#32),
    nullary main_call1_c_0 (constantI S_ 32 0#32),
    quaternary main_v6 main_call1_v0 main_call1_c main_call1_c_0 main_call1_v1_0
      (fun x y u v j => (Host.reduce2 reducer_argmax_i32_i32 x y u v reducesTo_S32x200x50x100_S32x200x50_d3 h_S_ j).1),
    quaternary main_v6 main_call1_v0 main_call1_c main_call1_c_0 main_v13
      (fun x y u v j => (Host.reduce2 reducer_argmax_i32_i32 x y u v reducesTo_S32x200x50x100_S32x200x50_d3 h_S_ j).2),
    unary main_v13 main_v14 (broadcastInDim S32x200x50x1 ![0, 1, 2] bcast_S32x200x50_S32x200x50x1_0_1_2),
    nullary main_call2_c (constantI S_ 32 0#32),
    unary main_call2_c main_call2_v0 (broadcastInDim S32x200x50x1 ![] bcast_S_S32x200x50x1),
    binary main_v14 main_call2_v0 main_call2_v1 (cmpi .slt),
    nullary main_call2_c_0 (constantI S_ 32 100#32),
    unary main_call2_c_0 main_call2_v2 (broadcastInDim S32x200x50x1 ![] bcast_S_S32x200x50x1),
    binary main_v14 main_call2_v2 main_call2_v3 addi,
    ternary main_call2_v1 main_call2_v3 main_v14 main_call2_v4 select,
    reshape main_call2_v4 main_call2_v5 (rfl : (.i32 : EltTy) = .i32) shapeCasts_S32x200x50x1_S32x200x50x1x1,
    nullary main_call2_c_1 (constantI S1 32 99#32),
    nullary main_call2_c_2 (constantI S_ 32 0#32),
    unary main_call2_c_2 main_call2_v6 (broadcastInDim S32x200x50x1x1 ![] bcast_S_S32x200x50x1x1),
    binary main_call2_v5 main_call2_v6 main_call2_v7 (cmpi .sge),
    unary main_call2_c_1 main_call2_v8 (broadcastInDim S1x1x1x1x1 ![4] bcast_S1_S1x1x1x1x1_4),
    unary main_call2_v8 main_call2_v9
      (broadcastInDim S32x200x50x1x1 ![0, 1, 2, 3, 4] bcast_S1x1x1x1x1_S32x200x50x1x1_0_1_2_3_4),
    binary main_call2_v5 main_call2_v9 main_call2_v10 (cmpi .sle),
    binary main_call2_v7 main_call2_v10 main_call2_v11 andi,
    nullary main_call2_c_3 (constantI S_ 1 1#1),
    binary main_call2_v11 main_call2_c_3 main_call2_v12
      (fun x v => Host.reduce IntOp.andi x v reducesTo_S32x200x50x1x1_S32x200x50x1_d4 h_S_),
    binary main_arg3 main_call2_v5 main_call2_v13
      (fun x i => Host.gather gather_S32x200x50x100_S32x200x50x1x1_S32x200x50x1_n_3_012_012_3_4_1111 x i),
    nullary main_call2_cst (constant S_ .f32 0x7FC00000#32),
    unary main_call2_cst main_call2_v14 (broadcastInDim S32x200x50x1 ![] bcast_S_S32x200x50x1),
    ternary main_call2_v12 main_call2_v13 main_call2_v14 main_v15 select,
    unary main_v12 main_v16 (broadcastInDim S32x200x50x1 ![0, 1, 2] bcast_S32x200x50_S32x200x50x1_0_1_2),
    nullary main_cst_4 (constant S_ .f32 0x41200000#32),
    unary main_cst_4 main_call3_v0 (broadcastInDim S32x200x50x1 ![] bcast_S_S32x200x50x1),
    ternary main_v16 main_call3_v0 main_v15 main_v17 select,
    reshape main_v17 main_v18 (rfl : (.f32 : EltTy) = .f32) shapeCasts_S32x200x50x1_S32x200x50 ]

/-! ## The result as a term of the arguments -/

/-- The bit "draw `e` of particle `s` is accepted": the draw's uniform times the rate, over the time, below one. -/
abbrev accepted (u : S32x200x50x100.Idx → Elt F .f32) (r : S32x200.Idx → Elt F .f32) (t : S32x200x50x100.Idx → Elt F .f32) :
    IVec S32x200x50x100 1 :=
  cmpf .olt
    (Host.divf
      (mulf u (broadcastInDim S32x200x50x100 ![0, 1, 2, 3] bcast_S32x200x1x1_S32x200x50x100_0_1_2_3
        (broadcastInDim S32x200x1x1 ![0, 1] bcast_S32x200_S32x200x1x1_0_1 r))) t)
    (broadcastInDim S32x200x50x100 ![] bcast_S_S32x200x50x100 (constant S_ .f32 0x3F800000#32))

/-- The acceptance bits as the integers one and zero. -/
abbrev marks (p : IVec S32x200x50x100 1) : IVec S32x200x50x100 32 :=
  select p (broadcastInDim S32x200x50x100 ![] bcast_S_S32x200x50x100 (constantI S_ 32 1#32))
    (broadcastInDim S32x200x50x100 ![] bcast_S_S32x200x50x100 (constantI S_ 32 0#32))

/-- The bit "no draw of the particle is accepted": one minus every mark is nonzero. -/
abbrev noneBit (x : IVec S32x200x50x100 32) : IVec S32x200x50 1 :=
  Host.reduce IntOp.andi
    (cmpi .ne (subi (broadcastInDim S32x200x50x100 ![] bcast_S_S32x200x50x100 (constantI S_ 32 1#32)) x)
      (broadcastInDim S32x200x50x100 ![] bcast_S_S32x200x50x100 (constantI S_ 32 0#32)))
    (constantI S_ 1 1#1) reducesTo_S32x200x50x100_S32x200x50_d3 h_S_

/-- The position of the first largest mark of each particle. -/
abbrev firstMax (x : IVec S32x200x50x100 32) : IVec S32x200x50 32 := fun j =>
  (Host.reduce2 reducer_argmax_i32_i32 x (iotaInDim S32x200x50x100 32 3) (constantI S_ 32 2147483648#32)
    (constantI S_ 32 0#32) reducesTo_S32x200x50x100_S32x200x50_d3 h_S_ j).2

/-- A position counted from the end when it is negative, with the index vector's axis appended. -/
abbrev wrapped (i : IVec S32x200x50 32) : IVec S32x200x50x1x1 32 :=
  shapeCast S32x200x50x1x1
    (select
      (cmpi .slt (broadcastInDim S32x200x50x1 ![0, 1, 2] bcast_S32x200x50_S32x200x50x1_0_1_2 i)
        (broadcastInDim S32x200x50x1 ![] bcast_S_S32x200x50x1 (constantI S_ 32 0#32)))
      (addi (broadcastInDim S32x200x50x1 ![0, 1, 2] bcast_S32x200x50_S32x200x50x1_0_1_2 i)
        (broadcastInDim S32x200x50x1 ![] bcast_S_S32x200x50x1 (constantI S_ 32 100#32)))
      (broadcastInDim S32x200x50x1 ![0, 1, 2] bcast_S32x200x50_S32x200x50x1_0_1_2 i))
    shapeCasts_S32x200x50x1_S32x200x50x1x1

/-- The bit "the position lies between zero and ninety-nine". -/
abbrev inRange (k : IVec S32x200x50x1x1 32) : IVec S32x200x50x1 1 :=
  Host.reduce IntOp.andi
    (andi
      (cmpi .sge k (broadcastInDim S32x200x50x1x1 ![] bcast_S_S32x200x50x1x1 (constantI S_ 32 0#32)))
      (cmpi .sle k (broadcastInDim S32x200x50x1x1 ![0, 1, 2, 3, 4] bcast_S1x1x1x1x1_S32x200x50x1x1_0_1_2_3_4
        (broadcastInDim S1x1x1x1x1 ![4] bcast_S1_S1x1x1x1x1_4 (constantI S1 32 99#32)))))
    (constantI S_ 1 1#1) reducesTo_S32x200x50x1x1_S32x200x50x1_d4 h_S_

/-- The elements taken at the positions `k` of their rows, the filler where a position is out of range. -/
abbrev taken (e : S32x200x50x100.Idx → Elt F .f32) (k : IVec S32x200x50x1x1 32) : S32x200x50x1.Idx → Elt F .f32 :=
  select (inRange k)
    (Host.gather gather_S32x200x50x100_S32x200x50x1x1_S32x200x50x1_n_3_012_012_3_4_1111 e k)
    (broadcastInDim S32x200x50x1 ![] bcast_S_S32x200x50x1 (constant S_ .f32 0x7FC00000#32))

/-- The result from the acceptance bits `p` and the draws `e`: ten where the particle accepts no draw, elsewhere the
    draw at the first largest mark. -/
abbrev chosen (p : IVec S32x200x50x100 1) (e : S32x200x50x100.Idx → Elt F .f32) : S32x200x50.Idx → Elt F .f32 :=
  shapeCast S32x200x50
    (select (broadcastInDim S32x200x50x1 ![0, 1, 2] bcast_S32x200x50_S32x200x50x1_0_1_2 (noneBit (marks p)))
      (broadcastInDim S32x200x50x1 ![] bcast_S_S32x200x50x1 (constant S_ .f32 0x41200000#32))
      (taken e (wrapped (firstMax (marks p)))))
    shapeCasts_S32x200x50x1_S32x200x50

/-- The reference's result as a term of its four arguments. -/
abbrev refOut (u : S32x200x50x100.Idx → Elt F .f32) (r : S32x200.Idx → Elt F .f32) (t e : S32x200x50x100.Idx → Elt F .f32) :
    S32x200x50.Idx → Elt F .f32 :=
  chosen (accepted u r t) e

/-! ## The run -/

set_option maxRecDepth 16384 in
/-- @main is that straight line: with the functions' bodies unfolded at their calls and the sequencing reassociated, both
    sides are one chain of host operations. -/
theorem main_eq (c : Dev nD) : main (F := F) c = seq ops := by
  simp only [main, fn_where.body, fn_argmax.body, fn_take_along_axis.body, fn_where_0.body, TRef.nullary, TRef.unary,
    TRef.binary, TRef.ternary, TRef.quaternary, TRef.reshape, cast_eq, seq, bind_assoc, pure_bind]
  rfl

/-- The fold of the operations at the result buffer is `refOut` of the arguments. -/
theorem out_eq (V : Valuation τ sig (Elt F)) :
    after ops V (main_v18 : DevRef τ sig)
      = refOut (V (main_arg0 : DevRef τ sig)) (V (main_arg1 : DevRef τ sig)) (V (main_arg2 : DevRef τ sig))
          (V (main_arg3 : DevRef τ sig)) := by
  after_results_simp
  rfl

/-- No operation writes the first argument. -/
theorem arg0_eq (V : Valuation τ sig (Elt F)) :
    after ops V (main_arg0 : DevRef τ sig) = V (main_arg0 : DevRef τ sig) := by
  after_results_simp

/-- No operation writes the second argument. -/
theorem arg1_eq (V : Valuation τ sig (Elt F)) :
    after ops V (main_arg1 : DevRef τ sig) = V (main_arg1 : DevRef τ sig) := by
  after_results_simp

/-- No operation writes the third argument. -/
theorem arg2_eq (V : Valuation τ sig (Elt F)) :
    after ops V (main_arg2 : DevRef τ sig) = V (main_arg2 : DevRef τ sig) := by
  after_results_simp

/-- No operation writes the fourth argument. -/
theorem arg3_eq (V : Valuation τ sig (Elt F)) :
    after ops V (main_arg3 : DevRef τ sig) = V (main_arg3 : DevRef τ sig) := by
  after_results_simp

/-- The program has no scoped buffer. -/
theorem scopedRefs_eq : (Finset.univ.filter fun b : Ref sig .tc => b.isScoped) = ∅ := by decide

/-- The program has no scoped semaphore. -/
theorem scopedSems_eq : (Finset.univ.filter fun sm : SemLoc sig => sm.isScoped .tc) = ∅ := by decide

/-- Every operation reads and writes buffers of the TensorCore. -/
theorem ops_sub : (ops : List (HloOp τ sig (Elt F))).Forall fun op => op.bufs ⊆ tcRefs τ sig :=
  ⟨unary_bufs_sub .., unary_bufs_sub .., binary_bufs_sub .., binary_bufs_sub .., nullary_bufs_sub ..,
    unary_bufs_sub .., binary_bufs_sub .., nullary_bufs_sub .., nullary_bufs_sub .., unary_bufs_sub ..,
    unary_bufs_sub .., ternary_bufs_sub .., nullary_bufs_sub .., unary_bufs_sub .., binary_bufs_sub ..,
    nullary_bufs_sub .., unary_bufs_sub .., binary_bufs_sub .., unary_bufs_sub .., nullary_bufs_sub ..,
    binary_bufs_sub .., nullary_bufs_sub .., nullary_bufs_sub .., nullary_bufs_sub .., quaternary_bufs_sub ..,
    quaternary_bufs_sub .., unary_bufs_sub .., nullary_bufs_sub .., unary_bufs_sub .., binary_bufs_sub ..,
    nullary_bufs_sub .., unary_bufs_sub .., binary_bufs_sub .., ternary_bufs_sub .., reshape_bufs_sub ..,
    nullary_bufs_sub .., nullary_bufs_sub .., unary_bufs_sub .., binary_bufs_sub .., unary_bufs_sub ..,
    unary_bufs_sub .., binary_bufs_sub .., binary_bufs_sub .., nullary_bufs_sub .., binary_bufs_sub ..,
    binary_bufs_sub .., nullary_bufs_sub .., unary_bufs_sub .., ternary_bufs_sub .., unary_bufs_sub ..,
    nullary_bufs_sub .., unary_bufs_sub .., ternary_bufs_sub .., reshape_bufs_sub ..⟩

/-- From any memory with zero counters, every weakly fair execution of @main on the TensorCores terminates, and every
    final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ

end Cert.Ref
-- ==== Proof.Pick.lean ====
/-
  The choice a particle makes, free of any program: the draw at the first accepted position, or a default when no
  position is accepted (`Picks`). Two scalar computations of it are read here. One takes the least of the keys "the
  position if accepted, else one hundred" and sums the draw at that position alone. The other folds a list of
  (mark, position) pairs, in any order, keeping the larger mark and among equal marks the smaller position.
-/
module

public import proofs.«01_k».proof.Defs
public import Idealize.ShloMosaic.Lib.WordCmp
public import Idealize.ShloMosaic.Lib.SortNet.Extract

@[expose] public section

namespace Cert.Pick

open Idealize.ShloMosaic Idealize.ShloMosaic.WordCmp

/-- `v` is the draw `e k` at the first accepted position `k`, or `ten` when no position is accepted. -/
def Picks {α : Type} (P : Fin 100 → Prop) (e : Fin 100 → α) (ten v : α) : Prop :=
  ((∀ k, ¬ P k) → v = ten) ∧ ∀ k, P k → (∀ l, l < k → ¬ P l) → v = e k

/-- A nonempty set of positions has a first one. -/
theorem exists_first {P : Fin 100 → Prop} (h : ¬ ∀ k, ¬ P k) : ∃ k, P k ∧ ∀ l, l < k → ¬ P l := by
  simp only [not_forall, not_not] at h
  obtain ⟨k, hk, hmin⟩ := WellFounded.has_min (wellFounded_lt : WellFounded ((· < ·) : Fin 100 → Fin 100 → Prop)) {k | P k} h
  exact ⟨k, hk, fun l hl hP => hmin l hP hl⟩

/-- The choice is unique. -/
theorem Picks.unique {α : Type} {P : Fin 100 → Prop} {e : Fin 100 → α} {ten v w : α} (hv : Picks P e ten v)
    (hw : Picks P e ten w) : v = w := by
  by_cases h : ∀ k, ¬ P k
  · rw [hv.1 h, hw.1 h]
  · obtain ⟨k, hk, hl⟩ := exists_first h
    rw [hv.2 k hk hl, hw.2 k hk hl]

/-! ## The least key -/

section Least

variable (P : Fin 100 → Prop) [DecidablePred P]

/-- The least of the keys: a position's own number if accepted, else one hundred. -/
abbrev leastKey : BitVec 32 :=
  Finset.fold IntOp.minsi 2147483647#32 (fun x : Fin 100 => if P x then BitVec.ofNat 32 x.val else 100#32) Finset.univ

/-- A position as an integer. -/
theorem toInt_pos (k : Fin 100) : (BitVec.ofNat 32 k.val).toInt = k.val :=
  toInt_ofNat_of_lt (lt_of_lt_of_le k.isLt (by decide))

/-- Positions are told apart by their words. -/
theorem pos_inj {k l : Fin 100} (h : BitVec.ofNat 32 k.val = BitVec.ofNat 32 l.val) : k = l := by
  have := congrArg BitVec.toInt h
  rw [toInt_pos, toInt_pos] at this
  exact Fin.ext (by exact_mod_cast this)

/-- The least key read as an integer is the least of the integers. -/
theorem toInt_leastKey :
    (leastKey P).toInt = Finset.fold min 2147483647 (fun x : Fin 100 => if P x then (x.val : Int) else 100) Finset.univ := by
  unfold leastKey
  rw [← Finset.fold_hom (op' := (min : Int → Int → Int)) (m := BitVec.toInt) SortNet.toInt_minsi]
  refine Finset.fold_congr fun x _ => ?_
  split
  · exact toInt_pos x
  · rfl

/-- With no accepted position the least key is one hundred. -/
theorem leastKey_none (h : ∀ k, ¬ P k) : leastKey P = 100#32 := by
  apply BitVec.eq_of_toInt_eq
  rw [toInt_leastKey]
  show _ = (100 : Int)
  apply le_antisymm
  · rw [Finset.fold_min_le]
    exact Or.inr ⟨0, Finset.mem_univ _, by rw [if_neg (h 0)]⟩
  · rw [Finset.le_fold_min]
    exact ⟨by decide, fun x _ => by rw [if_neg (h x)]⟩

/-- With a first accepted position the least key is that position. -/
theorem leastKey_first {k : Fin 100} (hk : P k) (hl : ∀ l, l < k → ¬ P l) : leastKey P = BitVec.ofNat 32 k.val := by
  apply BitVec.eq_of_toInt_eq
  rw [toInt_leastKey, toInt_pos]
  apply le_antisymm
  · rw [Finset.fold_min_le]
    exact Or.inr ⟨k, Finset.mem_univ _, by rw [if_pos hk]⟩
  · rw [Finset.le_fold_min]
    refine ⟨by have := k.isLt; omega, fun x _ => ?_⟩
    split
    · rename_i hx
      have : ¬ x < k := fun hlt => hl x hlt hx
      have : k.val ≤ x.val := not_lt.mp this
      exact_mod_cast this
    · have := k.isLt
      omega

/-- The value computed from the least key: the default when it is at least one hundred, else the sum of the draws
    over the accepted positions equal to it. It is the draw at the first accepted position, or the default. -/
theorem picks_leastKey (e : Fin 100 → EReal) (ten : EReal) :
    Picks P e ten (Scalar.select (IntOp.cmpi .sge (leastKey P) 100#32) ten
      (∑ x : Fin 100, Scalar.select
        (IntOp.andi (IntOp.cmpi .eq (BitVec.ofNat 32 x.val) (leastKey P)) (BitVec.ofBool (decide (P x)))) (e x) 0)) := by
  refine ⟨fun h => ?_, fun k hk hl => ?_⟩
  · rw [leastKey_none P h]
    rfl
  · rw [leastKey_first P hk hl, cmpi_sge_eq, toInt_pos]
    have hlt : ¬ (100#32).toInt ≤ (k.val : Int) := by
      have : (100#32).toInt = 100 := rfl
      have := k.isLt
      omega
    rw [decide_eq_false hlt]
    refine (if_neg (by decide)).trans ?_
    rw [Finset.sum_eq_single k]
    · rw [cmpi_eq_eq, decide_eq_true rfl, decide_eq_true hk]
      rfl
    · intro x _ hx
      rw [cmpi_eq_eq, decide_eq_false fun h => hx (pos_inj h), andi_ofBool]
      rfl
    · exact fun h => absurd (Finset.mem_univ k) h

end Least

/-! ## The best pair of a list -/

/-- One pair is at least as good as another: a larger mark, or the same mark at a position not larger. -/
def Beats (a b : BitVec 32 × BitVec 32) : Prop := b.1.toInt < a.1.toInt ∨ (a.1 = b.1 ∧ a.2.toInt ≤ b.2.toInt)

theorem Beats.refl (a : BitVec 32 × BitVec 32) : Beats a a := Or.inr ⟨rfl, le_rfl⟩

theorem Beats.trans {a b c : BitVec 32 × BitVec 32} (hab : Beats a b) (hbc : Beats b c) : Beats a c := by
  rcases hab with h | ⟨h, h'⟩ <;> rcases hbc with k | ⟨k, k'⟩
  · exact Or.inl (k.trans h)
  · exact Or.inl (k ▸ h)
  · exact Or.inl (h ▸ k)
  · exact Or.inr ⟨h.trans k, h'.trans k'⟩

/-- A step that returns one of its two operands, at least as good as both, makes the fold return a member of the list
    at least as good as every member. -/
theorem foldl_best (f : BitVec 32 × BitVec 32 → BitVec 32 × BitVec 32 → BitVec 32 × BitVec 32)
    (hf : ∀ a b, (f a b = a ∨ f a b = b) ∧ Beats (f a b) a ∧ Beats (f a b) b) (l : List (BitVec 32 × BitVec 32))
    (init : BitVec 32 × BitVec 32) :
    (l.foldl f init = init ∨ l.foldl f init ∈ l) ∧ Beats (l.foldl f init) init ∧ ∀ q ∈ l, Beats (l.foldl f init) q := by
  induction l generalizing init with
  | nil => exact ⟨Or.inl rfl, Beats.refl _, fun q hq => absurd hq List.not_mem_nil⟩
  | cons q l ih =>
    rw [List.foldl_cons]
    obtain ⟨hmem, hinit, hall⟩ := ih (f init q)
    obtain ⟨hor, h₁, h₂⟩ := hf init q
    refine ⟨?_, hinit.trans h₁, fun p hp => ?_⟩
    · rcases hmem with h | h
      · rw [h]
        exact hor.imp id fun e => by rw [e]; exact List.mem_cons_self
      · exact Or.inr (List.mem_cons_of_mem _ h)
    · rcases List.mem_cons.mp hp with rfl | hp
      · exact hinit.trans h₂
      · exact hall p hp

/-- The best pair of the marks "one if accepted, else zero" at their positions, starting from the smallest word at
    position zero: its position is a position of the row, and the first accepted one if there is any. -/
theorem best_pos (P : Fin 100 → Prop) [DecidablePred P] (l : List (BitVec 32 × BitVec 32)) (r : BitVec 32 × BitVec 32)
    (hl : ∀ q ∈ l, ∃ k : Fin 100, q = (if P k then 1#32 else 0#32, BitVec.ofNat 32 k.val))
    (hk : ∀ k : Fin 100, (if P k then 1#32 else 0#32, BitVec.ofNat 32 k.val) ∈ l)
    (hmem : r = (2147483648#32, 0#32) ∨ r ∈ l) (hall : ∀ q ∈ l, Beats r q) :
    ∃ k : Fin 100, r.2 = BitVec.ofNat 32 k.val ∧ ∀ k', P k' → (∀ j, j < k' → ¬ P j) → k = k' := by
  have hin : r ∈ l := by
    refine hmem.resolve_left fun h => ?_
    subst h
    rcases hall _ (hk 0) with h | ⟨h, -⟩ <;> revert h <;> dsimp only <;> split <;> decide
  obtain ⟨k, rfl⟩ := hl r hin
  refine ⟨k, rfl, fun k' hP hmin => ?_⟩
  have hb := hall _ (hk k')
  rw [if_pos hP] at hb
  by_cases hkP : P k
  · rw [if_pos hkP] at hb
    rcases hb with h | ⟨-, h⟩
    · exact absurd h (lt_irrefl _)
    · dsimp only at h
      rw [toInt_pos, toInt_pos] at h
      have h₁ : k ≤ k' := by exact_mod_cast h
      exact le_antisymm h₁ (not_lt.mp fun hlt => hmin k hlt hkP)
  · rw [if_neg hkP] at hb
    rcases hb with h | ⟨h, -⟩ <;> dsimp only at h <;> exact absurd h (by decide)

end Cert.Pick
-- ==== Proof.RefValue.lean ====
/-
  The reference's result read at one particle: it is the choice of `Pick.Picks` on the particle's row. Each intermediate
  array of the reference is read at an index on its own, over an arbitrary operand.
-/
module

public import proofs.«01_k».proof.Proof.Ref
public import proofs.«01_k».proof.Proof.Pick
public import Idealize.ShloMosaic.Lib.Pointwise
public import Idealize.ShloMosaic.Lib.ReduceAll

@[expose] public section

namespace Cert.RefValue

open Idealize.ShloMosaic Idealize.ShloMosaic.WordCmp
open Cert.ReferenceIdeal Cert.ReferenceIdeal.Facts₀ Cert.Ref Cert.Pick

local instance : Cert.ReferenceIdeal.Facts := Cert.ReferenceIdeal.Gen.facts

variable (b : Fin 32) (l : Fin 200) (s : Fin 50)

/-- An accepted draw: the uniform times the rate, over the time, below one. -/
theorem accepted_apply (u : S32x200x50x100.Idx → Elt Ideal .f32) (r : S32x200.Idx → Elt Ideal .f32)
    (t : S32x200x50x100.Idx → Elt Ideal .f32) (k : Fin 100) :
    accepted (F := Ideal) u r t (ix4 b l s k)
      = BitVec.ofBool (decide (Ideal.div (u (ix4 b l s k) * r (ix2 b l)) (t (ix4 b l s k)) < 1)) := by
  pointwise [accepted]

/-- A mark is one or zero as its bit is set or not. -/
theorem marks_apply (p : IVec S32x200x50x100 1) (i : S32x200x50x100.Idx) :
    marks p i = Scalar.select (p i) 1#32 0#32 := rfl

/-- Dropping the last axis of a four-axis index. -/
theorem drop_eq (i : S32x200x50x100.Idx) :
    reducesTo_S32x200x50x100_S32x200x50_d3.drop i = ix3 b l s ↔ ∃ k : Fin 100, i = ix4 b l s k := by
  constructor
  · intro h
    refine ⟨i 3, funext fun a => Fin.ext ?_⟩
    have h0 := Shape.ReducesTo.drop_apply_val_of_eq reducesTo_S32x200x50x100_S32x200x50_d3 i 0 0
    have h1 := Shape.ReducesTo.drop_apply_val_of_eq reducesTo_S32x200x50x100_S32x200x50_d3 i 1 1
    have h2 := Shape.ReducesTo.drop_apply_val_of_eq reducesTo_S32x200x50x100_S32x200x50_d3 i 2 2
    rw [h] at h0 h1 h2
    match a with
    | ⟨0, _⟩ => exact h0.symm
    | ⟨1, _⟩ => exact h1.symm
    | ⟨2, _⟩ => exact h2.symm
    | ⟨3, _⟩ => rfl
  · rintro ⟨k, rfl⟩
    refine funext fun a => Fin.ext ?_
    match a with
    | ⟨0, _⟩ => exact Shape.ReducesTo.drop_apply_val_of_eq reducesTo_S32x200x50x100_S32x200x50_d3 _ 0 0
    | ⟨1, _⟩ => exact Shape.ReducesTo.drop_apply_val_of_eq reducesTo_S32x200x50x100_S32x200x50_d3 _ 1 1
    | ⟨2, _⟩ => exact Shape.ReducesTo.drop_apply_val_of_eq reducesTo_S32x200x50x100_S32x200x50_d3 _ 2 2

/-- The "no accepted draw" bit is set when no bit of the row is. -/
theorem noneBit_one (p : IVec S32x200x50x100 1) (h : ∀ k : Fin 100, p (ix4 b l s k) ≠ 1#1) :
    noneBit (marks p) (ix3 b l s) = 1#1 := by
  show Host.reduce IntOp.andi _ _ _ _ _ = _
  rw [Host.reduce_eq_foldl]
  refine IntOp.foldl_andi_one _ _ _ rfl fun i hi => ?_
  rw [List.mem_filter] at hi
  obtain ⟨k, rfl⟩ := (drop_eq b l s i).mp (of_decide_eq_true hi.2)
  show IntOp.cmpi .ne (IntOp.subi 1#32 (marks p (ix4 b l s k))) 0#32 = 1#1
  rw [marks_apply, show Scalar.select (p (ix4 b l s k)) 1#32 0#32 = 0#32 from if_neg (h k)]
  rfl

/-- The "no accepted draw" bit is clear when some bit of the row is set. -/
theorem noneBit_ne_one (p : IVec S32x200x50x100 1) {k : Fin 100} (h : p (ix4 b l s k) = 1#1) :
    noneBit (marks p) (ix3 b l s) ≠ 1#1 := by
  intro hb
  have := Host.reduce_andi_eq_one _ _ reducesTo_S32x200x50x100_S32x200x50_d3 h_S_ _ hb (ix4 b l s k)
    ((drop_eq b l s _).mpr ⟨k, rfl⟩)
  have h' : IntOp.cmpi .ne (IntOp.subi 1#32 (marks p (ix4 b l s k))) 0#32 = 1#1 := this
  rw [marks_apply, show Scalar.select (p (ix4 b l s k)) 1#32 0#32 = 1#32 from if_pos h] at h'
  exact absurd h' (by decide)

/-- A step of the reference's search returns one of its two pairs, at least as good as both. -/
theorem reducer_best (a c : BitVec 32 × BitVec 32) :
    (reducer_argmax_i32_i32 a c = a ∨ reducer_argmax_i32_i32 a c = c) ∧ Beats (reducer_argmax_i32_i32 a c) a
      ∧ Beats (reducer_argmax_i32_i32 a c) c := by
  obtain ⟨x, i⟩ := a
  obtain ⟨y, j⟩ := c
  have hne : IntOp.cmpi .ne x x = 0#1 := by rw [cmpi_ne_eq]; simp
  by_cases h : y.toInt < x.toInt
  · have e : reducer_argmax_i32_i32 (x, i) (y, j) = (x, i) := by
      simp only [reducer_argmax_i32_i32, hne, cmpi_sgt_eq, cmpi_eq_eq, cmpi_slt_eq, decide_eq_true h, andi_ofBool,
        show (0#1 : BitVec 1) = BitVec.ofBool false from rfl, ori_ofBool, Bool.true_or]
      rfl
    rw [e]
    exact ⟨Or.inl rfl, Beats.refl _, Or.inl h⟩
  · by_cases h' : x = y ∧ i.toInt < j.toInt
    · have e : reducer_argmax_i32_i32 (x, i) (y, j) = (x, i) := by
        obtain ⟨rfl, h₂⟩ := h'
        simp only [reducer_argmax_i32_i32, hne, cmpi_sgt_eq, cmpi_eq_eq, cmpi_slt_eq, decide_eq_false h, decide_eq_true h₂]
        simp [Scalar.select, IntOp.ori, IntOp.andi]
      rw [e]
      exact ⟨Or.inl rfl, Beats.refl _, Or.inr ⟨h'.1, le_of_lt h'.2⟩⟩
    · have e : reducer_argmax_i32_i32 (x, i) (y, j) = (y, j) := by
        simp only [reducer_argmax_i32_i32, hne, cmpi_sgt_eq, cmpi_eq_eq, cmpi_slt_eq, decide_eq_false h, andi_ofBool,
          ← Bool.decide_and, decide_eq_false h']
        simp [Scalar.select, IntOp.ori]
      rw [e]
      refine ⟨Or.inr rfl, ?_, Beats.refl _⟩
      by_cases hxy : x = y
      · exact Or.inr ⟨hxy.symm, not_lt.mp fun hlt => h' ⟨hxy, hlt⟩⟩
      · exact Or.inl (lt_of_le_of_ne (not_lt.mp h) fun heq => hxy (BitVec.eq_of_toInt_eq heq))

/-- The pairs a two-operand reduction folds over at a result index are the operands' pairs at the source indices that
    drop to it. -/
theorem mem_argReduceFiber {σ τ : Shape} {axes : List (Fin σ.rank)} {α β : Type} (x : σ.Idx → α) (y : σ.Idx → β)
    (h : σ.ReducesTo axes τ) (j : τ.Idx) (q : α × β) :
    q ∈ Host.argReduceFiber x y h j ↔ ∃ i, h.drop i = j ∧ q = (x i, y i) := by
  unfold Host.argReduceFiber
  rw [List.mem_map]
  constructor
  · rintro ⟨n, hn, rfl⟩
    rw [List.mem_filter] at hn
    exact ⟨_, of_decide_eq_true hn.2, rfl⟩
  · rintro ⟨i, hi, rfl⟩
    refine ⟨σ.rowMajor i, ?_, ?_⟩
    · rw [List.mem_filter, Equiv.symm_apply_apply]
      exact ⟨List.mem_finRange _, decide_eq_true hi⟩
    · rw [Equiv.symm_apply_apply]

/-- A row's mark and position at one of its draws. -/
theorem pair_eq (p : IVec S32x200x50x100 1) (k : Fin 100) :
    (marks p (ix4 b l s k), iotaInDim S32x200x50x100 32 3 (ix4 b l s k))
      = (if p (ix4 b l s k) = 1#1 then 1#32 else 0#32, BitVec.ofNat 32 k.val) := by
  rw [marks_apply]
  rfl

/-- The pairs the search runs over at a particle are its row's marks at their positions. -/
theorem mem_fiber (p : IVec S32x200x50x100 1) (q : BitVec 32 × BitVec 32) :
    q ∈ Host.argReduceFiber (marks p) (iotaInDim S32x200x50x100 32 3) reducesTo_S32x200x50x100_S32x200x50_d3 (ix3 b l s)
      ↔ ∃ k : Fin 100, q = (if p (ix4 b l s k) = 1#1 then 1#32 else 0#32, BitVec.ofNat 32 k.val) := by
  rw [mem_argReduceFiber]
  constructor
  · rintro ⟨i, hi, rfl⟩
    obtain ⟨k, rfl⟩ := (drop_eq b l s i).mp hi
    exact ⟨k, pair_eq b l s p k⟩
  · rintro ⟨k, rfl⟩
    exact ⟨ix4 b l s k, (drop_eq b l s _).mpr ⟨k, rfl⟩, (pair_eq b l s p k).symm⟩

/-- The second result of a two-operand reduction is the second component of the fold over its pairs, from the two
    initial words. -/
theorem reduce2_snd {σ τ υ : Shape} {axes : List (Fin σ.rank)} {α β : Type} (f : α × β → α × β → α × β) (x : σ.Idx → α)
    (y : σ.Idx → β) (ix : υ.Idx → α) (iy : υ.Idx → β) (h : σ.ReducesTo axes τ) (hu : 0 < υ.numel) (j : τ.Idx) (a : α)
    (c : β) (ha : ix (Shape.Idx.first hu) = a) (hc : iy (Shape.Idx.first hu) = c) :
    (fun j => (Host.reduce2 f x y ix iy h hu j).2) j = ((Host.argReduceFiber x y h j).foldl f (a, c)).2 := by
  show (Host.reduce2 f x y ix iy h hu j).2 = _
  rw [Host.reduce2_eq_foldl_fiber, ha, hc]

/-- The array of found positions, spelled as the second results of the reduction. -/
theorem firstMax_eq (x : IVec S32x200x50x100 32) :
    firstMax x = fun j => (Host.reduce2 reducer_argmax_i32_i32 x (iotaInDim S32x200x50x100 32 3)
      (constantI S_ 32 2147483648#32) (constantI S_ 32 0#32) reducesTo_S32x200x50x100_S32x200x50_d3 h_S_ j).2 := rfl

/-- The found position comes from a fold over a list of exactly the row's pairs. -/
theorem search_eq (p : IVec S32x200x50x100 1) :
    ∃ L : List (BitVec 32 × BitVec 32),
      (∀ q, q ∈ L ↔ ∃ k : Fin 100, q = (if p (ix4 b l s k) = 1#1 then 1#32 else 0#32, BitVec.ofNat 32 k.val))
      ∧ firstMax (marks p) (ix3 b l s) = (L.foldl reducer_argmax_i32_i32 (2147483648#32, 0#32)).2 :=
  ⟨_, mem_fiber b l s p, (congrFun (firstMax_eq (marks p)) (ix3 b l s)).trans
    (reduce2_snd reducer_argmax_i32_i32 (marks p) (iotaInDim S32x200x50x100 32 3)
      (constantI S_ 32 2147483648#32) (constantI S_ 32 0#32) reducesTo_S32x200x50x100_S32x200x50_d3 h_S_ (ix3 b l s) _ _
      rfl rfl)⟩

/-- The found position is a position of the row, the first accepted one if there is any. -/
theorem firstMax_apply (p : IVec S32x200x50x100 1) :
    ∃ k : Fin 100, firstMax (marks p) (ix3 b l s) = BitVec.ofNat 32 k.val
      ∧ ∀ k', p (ix4 b l s k') = 1#1 → (∀ j, j < k' → ¬ p (ix4 b l s j) = 1#1) → k = k' := by
  obtain ⟨L, hmem, hL⟩ := search_eq b l s p
  rw [hL]
  have hbest := foldl_best reducer_argmax_i32_i32 reducer_best L (2147483648#32, 0#32)
  exact best_pos (fun k => p (ix4 b l s k) = 1#1) L _ (fun q hq => (hmem q).mp hq) (fun k => (hmem _).mpr ⟨k, rfl⟩)
    hbest.1 hbest.2.2

/-! ## Taking the draw at a position -/

/-- Nothing is added to a position of the row, and the appended unit axis is read through. -/
theorem wrapped_apply (i : IVec S32x200x50 32) (k : Fin 100) (h : i (ix3 b l s) = BitVec.ofNat 32 k.val) :
    wrapped i (ix5 b l s 0 0) = BitVec.ofNat 32 k.val := by
  unfold wrapped
  rw [shapeCast_apply _ _ (ix5 b l s 0 0) (ix4 b l s 0)
    (by
      rw [Shape.rowMajor_val_four, Shape.rowMajor_val_five]
      show ((b.val * 200 + l.val) * 50 + s.val) * 1 + 0 = (((b.val * 200 + l.val) * 50 + s.val) * 1 + 0) * 1 + 0
      omega)]
  have hb : broadcastInDim S32x200x50x1 ![0, 1, 2] bcast_S32x200x50_S32x200x50x1_0_1_2 i (ix4 b l s 0) = i (ix3 b l s) := by
    pointwise []
  show Scalar.select (IntOp.cmpi .slt
    (broadcastInDim S32x200x50x1 ![0, 1, 2] bcast_S32x200x50_S32x200x50x1_0_1_2 i (ix4 b l s 0)) 0#32) (IntOp.addi _ _)
    (broadcastInDim S32x200x50x1 ![0, 1, 2] bcast_S32x200x50_S32x200x50x1_0_1_2 i (ix4 b l s 0)) = _
  rw [hb, h, cmpi_slt_eq, toInt_pos, decide_eq_false (by simp)]
  exact if_neg (by decide)

/-- Dropping the unit last axis of a five-axis index. -/
theorem drop5_eq (i : S32x200x50x1x1.Idx) :
    reducesTo_S32x200x50x1x1_S32x200x50x1_d4.drop i = ix4 b l s 0 → i = ix5 b l s 0 0 := by
  intro h
  refine funext fun a => Fin.ext ?_
  have h0 := Shape.ReducesTo.drop_apply_val_of_eq reducesTo_S32x200x50x1x1_S32x200x50x1_d4 i 0 0
  have h1 := Shape.ReducesTo.drop_apply_val_of_eq reducesTo_S32x200x50x1x1_S32x200x50x1_d4 i 1 1
  have h2 := Shape.ReducesTo.drop_apply_val_of_eq reducesTo_S32x200x50x1x1_S32x200x50x1_d4 i 2 2
  have h3 := Shape.ReducesTo.drop_apply_val_of_eq reducesTo_S32x200x50x1x1_S32x200x50x1_d4 i 3 3
  rw [h] at h0 h1 h2 h3
  match a with
  | ⟨0, _⟩ => exact h0.symm
  | ⟨1, _⟩ => exact h1.symm
  | ⟨2, _⟩ => exact h2.symm
  | ⟨3, _⟩ => exact h3.symm
  | ⟨4, _⟩ => exact Nat.lt_one_iff.mp (i 4).isLt

/-- A position of the row is in range. -/
theorem inRange_apply (x : IVec S32x200x50x1x1 32) (k : Fin 100) (h : x (ix5 b l s 0 0) = BitVec.ofNat 32 k.val) :
    inRange x (ix4 b l s 0) = 1#1 := by
  show Host.reduce IntOp.andi _ _ _ _ _ = _
  rw [Host.reduce_eq_foldl]
  refine IntOp.foldl_andi_one _ _ _ rfl fun i hi => ?_
  rw [List.mem_filter] at hi
  obtain rfl := drop5_eq b l s i (of_decide_eq_true hi.2)
  show IntOp.andi (IntOp.cmpi .sge (x (ix5 b l s 0 0)) 0#32) (IntOp.cmpi .sle (x (ix5 b l s 0 0)) 99#32) = 1#1
  have h99 : (99#32).toInt = 99 := rfl
  have := k.isLt
  rw [h, cmpi_sge_eq, cmpi_sle_eq, toInt_pos, h99, decide_eq_true (by simp), decide_eq_true (by omega)]
  rfl

/-- The gather at a particle reads the draw at the particle's position. -/
theorem gather_apply (e : S32x200x50x100.Idx → Elt Ideal .f32) (x : IVec S32x200x50x1x1 32) (k : Fin 100)
    (h : x (ix5 b l s 0 0) = BitVec.ofNat 32 k.val) :
    Host.gather gather_S32x200x50x100_S32x200x50x1x1_S32x200x50x1_n_3_012_012_3_4_1111 e x (ix4 b l s 0)
      = e (ix4 b l s k) := by
  unfold Host.gather
  congr 1
  funext a
  refine Fin.ext ?_
  let d := gather_S32x200x50x100_S32x200x50x1x1_S32x200x50x1_n_3_012_012_3_4_1111
  show d.start (ix4 b l s 0) x a + d.batchCoord (ix4 b l s 0) a + d.offCoord (ix4 b l s 0) a = (ix4 b l s k a).val
  have ha : a = 3 ∨ (a = 0 ∨ a = 1 ∨ a = 2) := by
    match a with
    | ⟨0, _⟩ => exact Or.inr (Or.inl rfl)
    | ⟨1, _⟩ => exact Or.inr (Or.inr (Or.inl rfl))
    | ⟨2, _⟩ => exact Or.inr (Or.inr (Or.inr rfl))
    | ⟨3, _⟩ => exact Or.inl rfl
  rcases ha with rfl | ha
  · rw [GatherDims.batchCoord_eq_zero d _ _ (by decide),
      GatherDims.offCoord_eq_zero d _ _ (fun h => ((GatherDims.mem_sKept d _).mp h).1 (List.mem_singleton.mpr rfl))]
    simp only [Nat.add_zero]
    unfold GatherDims.start
    rw [dif_pos (show (3 : Fin 4) ∈ d.startIndexMap from List.mem_singleton.mpr rfl)]
    have hsi : d.siIdx (ix4 b l s 0) ⟨List.idxOf (3 : Fin 4) d.startIndexMap,
        List.idxOf_lt_length_iff.2 (List.mem_singleton.mpr rfl)⟩ = ix5 b l s 0 0 := by
      funext c; refine Fin.ext ?_
      match c with
      | ⟨0, _⟩ => rfl
      | ⟨1, _⟩ => rfl
      | ⟨2, _⟩ => rfl
      | ⟨3, _⟩ => rfl
      | ⟨4, _⟩ => rfl
    rw [hsi, h, toInt_pos]
    show min k.val 99 = k.val
    have := k.isLt
    omega
  · rw [GatherDims.start_batching d _ _ _ (by rcases ha with rfl | rfl | rfl <;> decide),
      GatherDims.offCoord_eq_zero d _ _ (fun h => ((GatherDims.mem_sKept d _).mp h).2
        (by rcases ha with rfl | rfl | rfl <;> decide))]
    simp only [Nat.zero_add, Nat.add_zero]
    unfold GatherDims.batchCoord
    rw [dif_pos (by rcases ha with rfl | rfl | rfl <;> decide)]
    rcases ha with rfl | rfl | rfl <;> rfl

/-- A select on a set bit. -/
theorem select_one {α : Type} {c : BitVec 1} (h : c = 1#1) (x y : α) : Scalar.select c x y = x := if_pos h

/-- A select on a clear bit. -/
theorem select_ne_one {α : Type} {c : BitVec 1} (h : c ≠ 1#1) (x y : α) : Scalar.select c x y = y := if_neg h

/-- The draw taken at a position of the row. -/
theorem taken_apply (e : S32x200x50x100.Idx → Elt Ideal .f32) (x : IVec S32x200x50x1x1 32) (k : Fin 100)
    (h : x (ix5 b l s 0 0) = BitVec.ofNat 32 k.val) : taken (F := Ideal) e x (ix4 b l s 0) = e (ix4 b l s k) :=
  (select_one (inRange_apply b l s x k h) _ _).trans (gather_apply b l s e x k h)

/-! ## The result -/

/-- The default, ten. -/
noncomputable abbrev ten : EReal := Ideal.ofBits .f32 0x41200000#32

/-- The last select, read through the dropped unit axis. -/
theorem select_apply (n : IVec S32x200x50 1) (v : S32x200x50x1.Idx → Elt Ideal .f32) :
    shapeCast S32x200x50
        (select (broadcastInDim S32x200x50x1 ![0, 1, 2] bcast_S32x200x50_S32x200x50x1_0_1_2 n)
          (broadcastInDim S32x200x50x1 ![] bcast_S_S32x200x50x1 (constant (F := Ideal) S_ .f32 0x41200000#32)) v)
        shapeCasts_S32x200x50x1_S32x200x50 (ix3 b l s)
      = Scalar.select (n (ix3 b l s)) ten (v (ix4 b l s 0)) := by
  rw [shapeCast_apply _ _ (ix3 b l s) (ix4 b l s 0)
    (by
      rw [Shape.rowMajor_val_three, Shape.rowMajor_val_four]
      show ((b.val * 200 + l.val) * 50 + s.val) * 1 + 0 = (b.val * 200 + l.val) * 50 + s.val
      omega)]
  have hb : broadcastInDim S32x200x50x1 ![0, 1, 2] bcast_S32x200x50_S32x200x50x1_0_1_2 n (ix4 b l s 0) = n (ix3 b l s) := by
    pointwise []
  rw [← hb]
  rfl

/-- The result at a particle is the draw at its first accepted position, or ten. -/
theorem chosen_picks (p : IVec S32x200x50x100 1) (e : S32x200x50x100.Idx → Elt Ideal .f32) :
    Picks (fun k : Fin 100 => p (ix4 b l s k) = 1#1) (fun k => e (ix4 b l s k)) ten
      (chosen (F := Ideal) p e (ix3 b l s)) := by
  have hsel : chosen (F := Ideal) p e (ix3 b l s) = Scalar.select (noneBit (marks p) (ix3 b l s)) ten
      (taken (F := Ideal) e (wrapped (firstMax (marks p))) (ix4 b l s 0)) :=
    select_apply b l s (noneBit (marks p)) (taken (F := Ideal) e (wrapped (firstMax (marks p))))
  rw [hsel]
  obtain ⟨k, hk, hfirst⟩ := firstMax_apply b l s p
  refine ⟨fun h => select_one (noneBit_one b l s p h) _ _, fun k' hk' hl => ?_⟩
  rw [select_ne_one (noneBit_ne_one b l s p hk'), taken_apply b l s e _ k (wrapped_apply b l s _ k hk), hfirst k' hk' hl]

/-- The reference's result at a particle, from the arguments. -/
theorem refOut_picks (u : S32x200x50x100.Idx → Elt Ideal .f32) (r : S32x200.Idx → Elt Ideal .f32)
    (t e : S32x200x50x100.Idx → Elt Ideal .f32) :
    Picks (fun k : Fin 100 => Ideal.div (u (ix4 b l s k) * r (ix2 b l)) (t (ix4 b l s k)) < 1)
      (fun k => e (ix4 b l s k)) ten (refOut (F := Ideal) u r t e (ix3 b l s)) := by
  have h := chosen_picks b l s (accepted (F := Ideal) u r t) e
  simp only [accepted_apply, ofBool_decide_eq_one_iff] at h
  exact h

end Cert.RefValue
-- ==== Proof.KernelRow.lean ====
/-
  One row of what the kernel stores at a grid point: the choice of `Pick.Picks` on the row of the four blocks.
-/
module

public import proofs.«01_k».proof.Proof.Gen.KernelIdeal.Skeleton
public import proofs.«01_k».proof.Proof.Pick
public import Idealize.ShloMosaic.Lib.Pointwise

@[expose] public section

namespace Cert.KernelRow

open Idealize.ShloMosaic Cert.KernelIdeal Cert.Pick

local instance : Cert.KernelIdeal.Facts := Cert.KernelIdeal.Gen.facts

/-- The default, ten. -/
noncomputable abbrev ten : EReal := Ideal.ofBits .f32 0x41200000#32

/-- A row of the stored block is the draw at the row's first accepted position, or ten. -/
theorem row_picks (u : Vec Ideal S512x100 .f32) (r : Vec Ideal S512x1 .f32) (t e : Vec Ideal S512x100 .f32)
    (i : Fin 512) :
    Picks (fun k : Fin 100 => Ideal.div (u (ix2 i k) * r (ix2 i 0)) (t (ix2 i k)) < 1) (fun k => e (ix2 i k)) ten
      (Gen.k0_pay1 (F := Ideal) u r t e (ix1 i)) := by
  have h := picks_leastKey (fun k : Fin 100 => Ideal.div (u (ix2 i k) * r (ix2 i 0)) (t (ix2 i k)) < 1)
    (fun k => e (ix2 i k)) ten
  refine cast (congrArg _ ?_) h
  pointwise [Gen.k0_pay1]

end Cert.KernelRow
-- ==== Proof.KernelArr.lean ====
/-
  The array the kernel's region leaves in its result window, element by element: row `n` of the flattened particles is
  particle `(b, l, s)` with `n = (b * 200 + l) * 50 + s`, and its element is the choice of `Pick.Picks` on that
  particle's draws.
-/
module

public import proofs.«01_k».proof.Proof.Gen.KernelIdeal.Frame
public import proofs.«01_k».proof.Proof.KernelRow
public import Idealize.ShloMosaic.Lib.Pipeline.ValueKit

@[expose] public section

set_option maxRecDepth 16384

noncomputable section

namespace Cert.KernelArr

open Idealize.ShloMosaic Idealize.ShloMosaic.TcCoe Idealize.SL.Sem
open Cert.KernelIdeal Cert.KernelIdeal.Gen Cert.Pick Cert.KernelRow

variable (m : (ℓ : Loc nD τ sig) → Buf (Elt Ideal) ℓ) (c : Dev nD)

/-! ## The arrays the region reads -/

/-- The four argument arrays at their literal shapes. -/
abbrev argU : S32x200x50x100.Idx → Elt Ideal .f32 := m ((c.tc : Thread nD τ).loc main_arg0)
abbrev argR : S32x200.Idx → Elt Ideal .f32 := m ((c.tc : Thread nD τ).loc main_arg1)
abbrev argT : S32x200x50x100.Idx → Elt Ideal .f32 := m ((c.tc : Thread nD τ).loc main_arg2)
abbrev argE : S32x200x50x100.Idx → Elt Ideal .f32 := m ((c.tc : Thread nD τ).loc main_arg3)

/-- The uniforms the region reads are the first argument, flattened. -/
theorem V_u : V m c main_v0 = shapeCast S320000x100 (argU m c) shapeCasts_S32x200x50x100_S320000x100 := by
  simp only [V, V0, List.flatten_cons, List.flatten_nil, List.append_nil]
  after_results_simp
  rfl

/-- The times the region reads are the third argument, flattened. -/
theorem V_t : V m c main_v1 = shapeCast S320000x100 (argT m c) shapeCasts_S32x200x50x100_S320000x100 := by
  simp only [V, V0, List.flatten_cons, List.flatten_nil, List.append_nil]
  after_results_simp
  rfl

/-- The draws the region reads are the fourth argument, flattened. -/
theorem V_e : V m c main_v2 = shapeCast S320000x100 (argE m c) shapeCasts_S32x200x50x100_S320000x100 := by
  simp only [V, V0, List.flatten_cons, List.flatten_nil, List.append_nil]
  after_results_simp
  rfl

/-- The rates the region reads are the second argument, each repeated over its particles and flattened. -/
theorem V_r : V m c main_v5 = shapeCast S320000x1 (broadcastInDim S6400x50 ![0, 1] bcast_S6400x1_S6400x50_0_1
    (shapeCast S6400x1 (argR m c) shapeCasts_S32x200_S6400x1)) shapeCasts_S6400x50_S320000x1 := by
  simp only [V, V0, List.flatten_cons, List.flatten_nil, List.append_nil]
  after_results_simp
  rfl

/-- The window index maps: point `t` holds block `t`. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val] :=
  (by decide +kernel : ∀ t : Fin grid0.N, _)

/-- A flattened array of draws read at a row. -/
theorem flat_apply (x : S32x200x50x100.Idx → Elt Ideal .f32) (n : Fin 320000) (b : Fin 32) (l : Fin 200) (s : Fin 50)
    (k : Fin 100) (h : n.val = (b.val * 200 + l.val) * 50 + s.val) :
    shapeCast S320000x100 x shapeCasts_S32x200x50x100_S320000x100 (ix2 n k) = x (ix4 b l s k) := by
  refine shapeCast_apply _ _ _ _ ?_
  rw [Shape.rowMajor_val_four, Shape.rowMajor_val_two]
  show ((b.val * 200 + l.val) * 50 + s.val) * 100 + k.val = n.val * 100 + k.val
  rw [h]

/-- The repeated rates read at a row. -/
theorem rate_apply (x : S32x200.Idx → Elt Ideal .f32) (n : Fin 320000) (b : Fin 32) (l : Fin 200) (s : Fin 50)
    (h : n.val = (b.val * 200 + l.val) * 50 + s.val) :
    shapeCast S320000x1 (broadcastInDim S6400x50 ![0, 1] bcast_S6400x1_S6400x50_0_1
      (shapeCast S6400x1 x shapeCasts_S32x200_S6400x1)) shapeCasts_S6400x50_S320000x1 (ix2 n 0) = x (ix2 b l) := by
  have hq : b.val * 200 + l.val < 6400 := by have := b.isLt; have := l.isLt; omega
  rw [shapeCast_apply _ _ (ix2 n 0) (ix2 (⟨b.val * 200 + l.val, hq⟩ : Fin 6400) s)
    (by
      rw [Shape.rowMajor_val_two, Shape.rowMajor_val_two]
      show (b.val * 200 + l.val) * 50 + s.val = n.val * 1 + 0
      omega)]
  have hb : broadcastInDim S6400x50 ![0, 1] bcast_S6400x1_S6400x50_0_1 (shapeCast S6400x1 x shapeCasts_S32x200_S6400x1)
      (ix2 (⟨b.val * 200 + l.val, hq⟩ : Fin 6400) s)
      = shapeCast S6400x1 x shapeCasts_S32x200_S6400x1 (ix2 (⟨b.val * 200 + l.val, hq⟩ : Fin 6400) 0) :=
    broadcastInDim_apply _ _ _ _ _ fun a => by
      match a with
      | ⟨0, _⟩ => rfl
      | ⟨1, _⟩ => rfl
  rw [hb]
  refine shapeCast_apply _ _ _ _ ?_
  rw [Shape.rowMajor_val_two, Shape.rowMajor_val_two]
  show b.val * 200 + l.val = (b.val * 200 + l.val) * 1 + 0
  omega

/-! ## The blocks at a row of a point -/

section Block

variable (t : Fin cfg0.N) (i : Fin 512) (b : Fin 32) (l : Fin 200) (s : Fin 50)
  (h : t.val * 512 + i.val = (b.val * 200 + l.val) * 50 + s.val)

include h in
/-- The row's place in the flattened arrays is a place. -/
theorem row_lt : t.val * 512 + i.val < 320000 := by
  have := b.isLt; have := l.isLt; have := s.isLt; omega

include h in
/-- The block of uniforms at a row is the particle's uniforms. -/
theorem blk_u (k : Fin 100) : (iblk m c 0 t : Vec Ideal S512x100 .f32) (ix2 i k) = argU m c (ix4 b l s k) := by
  rw [← flat_apply (argU m c) ⟨_, row_lt t i b l s h⟩ b l s k h, ← V_u]
  blk_ext [iblk, idx t]

include h in
/-- The block of rates at a row is the rate over the particle. -/
theorem blk_r : (iblk m c 1 t : Vec Ideal S512x1 .f32) (ix2 i 0) = argR m c (ix2 b l) := by
  rw [← rate_apply (argR m c) ⟨_, row_lt t i b l s h⟩ b l s h, ← V_r]
  blk_ext [iblk, idx t]

include h in
/-- The block of times at a row is the particle's times. -/
theorem blk_t (k : Fin 100) : (iblk m c 2 t : Vec Ideal S512x100 .f32) (ix2 i k) = argT m c (ix4 b l s k) := by
  rw [← flat_apply (argT m c) ⟨_, row_lt t i b l s h⟩ b l s k h, ← V_t]
  blk_ext [iblk, idx t]

include h in
/-- The block of draws at a row is the particle's draws. -/
theorem blk_e (k : Fin 100) : (iblk m c 3 t : Vec Ideal S512x100 .f32) (ix2 i k) = argE m c (ix4 b l s k) := by
  rw [← flat_apply (argE m c) ⟨_, row_lt t i b l s h⟩ b l s k h, ← V_e]
  blk_ext [iblk, idx t]

include h in
/-- What the kernel stores at a row of a point is the particle's choice. -/
theorem stored_picks :
    Picks (fun k : Fin 100 => Ideal.div (argU m c (ix4 b l s k) * argR m c (ix2 b l)) (argT m c (ix4 b l s k)) < 1)
      (fun k => argE m c (ix4 b l s k)) ten
      (k0_pay1 (F := Ideal) (iblk m c 0 t) (iblk m c 1 t) (iblk m c 2 t) (iblk m c 3 t) (ix1 i)) := by
  have hrow := row_picks (iblk m c 0 t) (iblk m c 1 t) (iblk m c 2 t) (iblk m c 3 t) i
  simp only [blk_u m c t i b l s h, blk_r m c t i b l s h, blk_t m c t i b l s h, blk_e m c t i b l s h] at hrow
  exact hrow

end Block

/-! ## The array after the region -/

/-- Every element of the result window's array is its particle's choice. -/
theorem arr_picks (n : Fin 320000) (b : Fin 32) (l : Fin 200) (s : Fin 50)
    (h : n.val = (b.val * 200 + l.val) * 50 + s.val) :
    Picks (fun k : Fin 100 => Ideal.div (argU m c (ix4 b l s k) * argR m c (ix2 b l)) (argT m c (ix4 b l s k)) < 1)
      (fun k => argE m c (ix4 b l s k)) ten
      (((dats m 0 c).arrAt 4 cfg0.N : S320000.Idx → Elt Ideal .f32) (ix1 n)) := by
  refine ((dats m 0 c).arrAt_forall_of_covers 4
    (fun (i : S320000.Idx) (v : Elt Ideal .f32) => ∀ (b : Fin 32) (l : Fin 200) (s : Fin 50),
      (i 0).val = (b.val * 200 + l.val) * 50 + s.val →
      Picks (fun k : Fin 100 => Ideal.div (argU m c (ix4 b l s k) * argR m c (ix2 b l)) (argT m c (ix4 b l s k)) < 1)
        (fun k => argE m c (ix4 b l s k)) ten v)
    (by decide +kernel) (fun t hf y => ?_)) (ix1 n) b l s h
  intro b l s h
  blk_simp [idx t] at h
  blk_simp
  rw [after0_4]
  frame_out
  have hy : (ix1 (y 0) : S512.Idx) = y := funext fun a => by
    match a with
    | ⟨0, _⟩ => rfl
  have hs := stored_picks m c t (y 0) b l s h
  rw [hy] at hs
  exact hs

/-! ## The result buffer -/

/-- After the host's last operation the result buffer is the region's array, cut into particles. -/
theorem tail_eq : Pipeline.afterTail₀ cfgs (dats m) 0 (V0 m) [hostOps1] c main_v7
    = shapeCast S32x200x50 ((dats m 0 c).arrAt 4 cfg0.N : S320000.Idx → Elt Ideal .f32) shapeCasts_S320000_S32x200x50 := by
  unfold Pipeline.afterTail₀
  simp only [List.flatten_cons, List.flatten_nil, List.append_nil]
  after_results_simp
  have harr := Pipeline.withArrays_arr spec0 (by decide) c (V0 m c) (fun w => (dats m 0 c).arrAt w (cfgs 0).N) 4
  exact congrArg (fun x : S320000.Idx → Elt Ideal .f32 => shapeCast S32x200x50 x shapeCasts_S320000_S32x200x50) harr

/-- Every element of the result buffer is its particle's choice. -/
theorem result_picks (b : Fin 32) (l : Fin 200) (s : Fin 50) :
    Picks (fun k : Fin 100 => Ideal.div (argU m c (ix4 b l s k) * argR m c (ix2 b l)) (argT m c (ix4 b l s k)) < 1)
      (fun k => argE m c (ix4 b l s k)) ten
      ((Pipeline.afterTail₀ cfgs (dats m) 0 (V0 m) [hostOps1] c main_v7 : S32x200x50.Idx → Elt Ideal .f32) (ix3 b l s)) := by
  have hn : (b.val * 200 + l.val) * 50 + s.val < 320000 := by
    have := b.isLt; have := l.isLt; have := s.isLt; omega
  rw [tail_eq, shapeCast_apply _ _ (ix3 b l s) (ix1 (⟨(b.val * 200 + l.val) * 50 + s.val, hn⟩ : Fin 320000))
    (by
      rw [Shape.rowMajor_val_one, Shape.rowMajor_val_three]
      rfl)]
  exact arr_picks m c _ b l s rfl

end Cert.KernelArr
-- ==== Proof.lean ====
/-
  The five claims about the kernel and its reference: each program runs, leaves its arguments as they were and ends
  quiescent; the idealized kernel is the kernel's own text; and over the extended reals the kernel and the reference
  end with equal results. The value claim rests on one description of a particle's result (`Pick.Picks`), which both
  programs meet (`KernelArr.result_picks`, `RefValue.refOut_picks`) and which leaves no choice (`Picks.unique`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Ref
public import proofs.«01_k».proof.Proof.RefValue
public import proofs.«01_k».proof.Proof.KernelArr
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts

/-- Arrays of particles both of which hold, at every particle, the choice on that particle's draws are equal. -/
theorem eq_of_picks {P : Fin 32 → Fin 200 → Fin 50 → Fin 100 → Prop} {e : Fin 32 → Fin 200 → Fin 50 → Fin 100 → EReal}
    {z : EReal} {x y : Cert.KernelIdeal.S32x200x50.Idx → EReal}
    (hx : ∀ b l s, Pick.Picks (P b l s) (e b l s) z (x (ix3 b l s)))
    (hy : ∀ b l s, Pick.Picks (P b l s) (e b l s) z (y (ix3 b l s))) : x = y := by
  funext j
  rw [show j = ix3 (j 0) (j 1) (j 2) from eq_ix3 j]
  exact (hx _ _ _).unique (hy _ _ _)

/-- The reference runs, its arguments end as they were, and no semaphore counter is left above zero. -/
theorem reference_quiescent : Cert.quiescent_ReferenceIdeal := fun m g _ =>
  θ_run_mono (Ref.run_main m g) fun r h =>
    ⟨fun c => ⟨(h c _).trans (Ref.arg0_eq _), (h c _).trans (Ref.arg1_eq _), (h c _).trans (Ref.arg2_eq _),
      (h c _).trans (Ref.arg3_eq _)⟩, sem_eq_zero_of_no_sems (by decide) r.2⟩

/-- From memories that agree on the arguments, the kernel's result array and the reference's are the same. -/
theorem values_eq
    (m : (ℓ : Loc Cert.KernelIdeal.nD Cert.KernelIdeal.τ Cert.KernelIdeal.sig) → Buf (Elt Ideal) ℓ)
    (c : Dev Cert.KernelIdeal.nD) :
    Ref.refOut (F := Ideal) (KernelArr.argU m c) (KernelArr.argR m c) (KernelArr.argT m c) (KernelArr.argE m c)
      = (Pipeline.afterTail₀ Cert.KernelIdeal.cfgs (Cert.KernelIdeal.Gen.dats m) 0 (Cert.KernelIdeal.Gen.V0 m)
          [Cert.KernelIdeal.Gen.hostOps1] c Cert.KernelIdeal.main_v7) :=
  eq_of_picks (fun b l s => RefValue.refOut_picks b l s _ _ _ _) (fun b l s => KernelArr.result_picks m c b l s)

/-- Over the extended reals the kernel and the reference end with equal results, and their arguments as they were. -/
theorem kernel_algebraic : Cert.algebraic_KernelIdeal_ReferenceIdeal := by
  intro m g m' g' _ hagree
  refine ⟨fun c => Pipeline.afterTail₀ Cert.KernelIdeal.cfgs (Cert.KernelIdeal.Gen.dats m) 0 (Cert.KernelIdeal.Gen.V0 m)
    [Cert.KernelIdeal.Gen.hostOps1] c Cert.KernelIdeal.main_v7, ?_, ?_⟩
  · refine θ_run_mono (θ_run_and (Cert.KernelIdeal.Gen.run_main m g) (Cert.KernelIdeal.Gen.unchanged m g)) ?_
    intro r h c
    exact ⟨(h.1 c).2 Cert.KernelIdeal.main_v7 (Pipeline.mem_restRefs_of _ (by decide) (by decide)), h.2 c⟩
  · refine θ_run_mono (Ref.run_main m' g') fun r h c => ⟨?_, (h c _).trans (Ref.arg0_eq _),
      (h c _).trans (Ref.arg1_eq _), (h c _).trans (Ref.arg2_eq _), (h c _).trans (Ref.arg3_eq _)⟩
    obtain ⟨h0, h1, h2, h3⟩ := hagree c
    refine ((h c _).trans (Ref.out_eq _)).trans (Eq.trans ?_ (values_eq m c))
    exact congr (congr (congr (congrArg (Ref.refOut (F := Ideal)) h0) h1) h2) h3

/-- Every claim, at the witnesses of the facts the programs state. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_quiescent, trivial,
    kernel_algebraic⟩

end Cert.Proof

end
